-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8192 : Shape := ⟨2, ![32, 8192]⟩
abbrev S8192x3 : Shape := ⟨2, ![8192, 3]⟩
abbrev S4096x3 : Shape := ⟨2, ![4096, 3]⟩
abbrev S8192x32 : Shape := ⟨2, ![8192, 32]⟩
abbrev S_ : Shape := ⟨0, ![]⟩
abbrev S8192x1 : Shape := ⟨2, ![8192, 1]⟩
abbrev S8192x33 : Shape := ⟨2, ![8192, 33]⟩
abbrev S4096x32 : Shape := ⟨2, ![4096, 32]⟩
abbrev S32x4096 : Shape := ⟨2, ![32, 4096]⟩
abbrev S256x3 : Shape := ⟨2, ![256, 3]⟩
abbrev S256x32 : Shape := ⟨2, ![256, 32]⟩
abbrev S256 : Shape := ⟨1, ![256]⟩
abbrev S8192 : Shape := ⟨1, ![8192]⟩
abbrev S256x8192 : Shape := ⟨2, ![256, 8192]⟩
abbrev S256x1 : Shape := ⟨2, ![256, 1]⟩
abbrev S1x8192 : Shape := ⟨2, ![1, 8192]⟩
abbrev S256x33 : Shape := ⟨2, ![256, 33]⟩

abbrev nBuf : Space → Nat
  | .hbm => 9
  | .vmem => 6
  | .smem => 0
  | _ => 0

abbrev bufTy : (tb : Table) → Fin (tcTables nBuf tb) → BufTy
  | .hbm, ⟨0, _⟩ => ⟨S32x8192, .f32⟩
  | .hbm, ⟨1, _⟩ => ⟨S8192x3, .f32⟩
  | .hbm, ⟨2, _⟩ => ⟨S4096x3, .f32⟩
  | .hbm, ⟨3, _⟩ => ⟨S8192x32, .f32⟩
  | .hbm, ⟨4, _⟩ => ⟨S_, .f32⟩
  | .hbm, ⟨5, _⟩ => ⟨S8192x1, .f32⟩
  | .hbm, ⟨6, _⟩ => ⟨S8192x33, .f32⟩
  | .hbm, ⟨7, _⟩ => ⟨S4096x32, .f32⟩
  | .hbm, ⟨8, _⟩ => ⟨S32x4096, .f32⟩
  | .local _ .vmem, ⟨0, _⟩ => ⟨S256x3, .f32⟩
  | .local _ .vmem, ⟨1, _⟩ => ⟨S256x3, .f32⟩
  | .local _ .vmem, ⟨2, _⟩ => ⟨S8192x3, .f32⟩
  | .local _ .vmem, ⟨3, _⟩ => ⟨S8192x33, .f32⟩
  | .local _ .vmem, ⟨4, _⟩ => ⟨S256x32, .f32⟩
  | .local _ .vmem, ⟨5, _⟩ => ⟨S256x32, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x33 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x8192 : Shape := ⟨2, ![32, 8192]⟩
abbrev S8192x3 : Shape := ⟨2, ![8192, 3]⟩
abbrev S4096x3 : Shape := ⟨2, ![4096, 3]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S3x8192 : Shape := ⟨2, ![3, 8192]⟩
abbrev S8192x4096 : Shape := ⟨2, ![8192, 4096]⟩
abbrev S32x4096 : Shape := ⟨2, ![32, 4096]⟩

abbrev nBuf : Space → Nat
  | .hbm => 38
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S8192x3, .f32⟩
  | .hbm, ⟨2, _⟩ => ⟨S4096x3, .f32⟩
  | .hbm, ⟨3, _⟩ => ⟨S4096x3, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S8192x3, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S3x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .i1⟩
  | .hbm, ⟨23, _⟩ => ⟨S4096x8192, .f32⟩
  | .hbm, ⟨24, _⟩ => ⟨S8192x4096, .f32⟩
  | .hbm, ⟨25, _⟩ => ⟨S32x4096, .f32⟩
  | .hbm, ⟨26, _⟩ => ⟨S_, .f32⟩
  | .hbm, ⟨27, _⟩ => ⟨S32x8192, .f32⟩
  | .hbm, ⟨28, _⟩ => ⟨S8192x4096, .f32⟩
  | .hbm, ⟨29, _⟩ => ⟨S32x4096, .f32⟩
  | .hbm, ⟨30, _⟩ => ⟨S_, .f32⟩
  | .hbm, ⟨31, _⟩ => ⟨S32x4096, .f32⟩
  | .hbm, ⟨32, _⟩ => ⟨S32x4096, .i1⟩
  | .hbm, ⟨33, _⟩ => ⟨S_, .f32⟩
  | .hbm, ⟨34, _⟩ => ⟨S_, .f32⟩
  | .hbm, ⟨35, _⟩ => ⟨S32x4096, .f32⟩
  | .hbm, ⟨36, _⟩ => ⟨S32x4096, .f32⟩
  | .hbm, ⟨37, _⟩ => ⟨S32x4096, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Meaning.lean ====
/-
  What the program computes, in plain mathematics over the extended reals: for every output point the mean of the
  features of the input points that lie within the radius. Nothing here mentions tiles, buffers or grids.
-/
module

public import Idealize.ShloMosaic.Lib.Pointwise

@[expose] public section

noncomputable section

namespace Cert.BallMean

open Idealize.ShloMosaic

/-- A matrix of extended reals with `a` rows and `b` columns, indexed as the programs' arrays are. -/
abbrev Mat (a b : Nat) : Type := FVec Ideal ⟨2, ![a, b]⟩ .f32

variable {N M B : Nat}

/-- The squared distance of output point `n` and input point `j`, expanded as |o|² + |p|² − 2 o·p. -/
def dist2 (o : Mat N 3) (p : Mat M 3) (n : Fin N) (j : Fin M) : EReal :=
  (∑ k, o (ix2 n k) * o (ix2 n k) + ∑ k, p (ix2 j k) * p (ix2 j k))
    - Ideal.ofBits .f32 0x40000000#32 * ∑ k, o (ix2 n k) * p (ix2 j k)

/-- One if input point `j` is within the radius of output point `n` (the literal is the squared radius), else zero. -/
def near (o : Mat N 3) (p : Mat M 3) (n : Fin N) (j : Fin M) : EReal :=
  if dist2 o p n j ≤ Ideal.ofBits .f32 0x396BEDFA#32 then 1 else 0

/-- The sum of feature `b` over the input points near output point `n`. -/
def total (x : Mat B M) (o : Mat N 3) (p : Mat M 3) (n : Fin N) (b : Fin B) : EReal :=
  ∑ j, near o p n j * x (ix2 b j)

/-- How many input points are near output point `n`. -/
def count (o : Mat N 3) (p : Mat M 3) (n : Fin N) : EReal := ∑ j, near o p n j

/-- The mean of feature `b` over the input points near output point `n`; where there are none the divisor is one. -/
def mean (x : Mat B M) (o : Mat N 3) (p : Mat M 3) (n : Fin N) (b : Fin B) : EReal :=
  Ideal.div (total x o p n b) (if 0 < count o p n then count o p n else 1)

/-- The mean at one output point depends on that point's coordinates alone: two arrays of output points that agree on
    a row give the same mean there. This is what lets a block of rows stand for the whole array. -/
theorem mean_congr_row {N' : Nat} (x : Mat B M) (o : Mat N 3) (o' : Mat N' 3) (p : Mat M 3) (n : Fin N) (n' : Fin N')
    (h : ∀ k, o (ix2 n k) = o' (ix2 n' k)) (b : Fin B) : mean x o p n b = mean x o' p n' b := by
  have hd : ∀ j, dist2 o p n j = dist2 o' p n' j := fun j => by simp only [dist2, h]
  have hn : ∀ j, near o p n j = near o' p n' j := fun j => by unfold near; rw [hd j]
  have ht : total x o p n b = total x o' p n' b := by simp only [total, hn]
  have hc : count o p n = count o' p n' := by simp only [count, hn]
  unfold mean
  rw [ht, hc]

/-- The mean with each product written feature first. -/
theorem mean_comm (x : Mat B M) (o : Mat N 3) (p : Mat M 3) (n : Fin N) (b : Fin B) :
    mean x o p n b = Ideal.div (∑ j, x (ix2 b j) * near o p n j) (if 0 < ∑ j, near o p n j then ∑ j, near o p n j else 1) := by
  have ht : total x o p n b = ∑ j, x (ix2 b j) * near o p n j := Finset.sum_congr rfl fun j _ => mul_comm _ _
  unfold mean
  rw [ht]
  rfl

/-- A bit widened to a 32-bit word and converted as a signed integer is one or zero. -/
theorem sitofp_bit (P : Prop) [Decidable P] :
    FloatOps.sitofp (F := Ideal) .f32 (BitVec.setWidth 32 (BitVec.ofBool (decide P))) = if P then (1 : EReal) else 0 := by
  show (((BitVec.setWidth 32 (BitVec.ofBool (decide P))).toInt : ℝ) : EReal) = _
  by_cases h : P <;> simp [h]

/-- A bit converted as an unsigned integer is one or zero. -/
theorem uitofp_bit (P : Prop) [Decidable P] :
    FloatOps.uitofp (F := Ideal) .f32 (BitVec.ofBool (decide P)) = if P then (1 : EReal) else 0 := by
  show (((BitVec.ofBool (decide P)).toNat : ℝ) : EReal) = _
  by_cases h : P <;> simp [h]

end Cert.BallMean

end
-- ==== Proof.Block.lean ====
/-
  What one grid step of the kernel computes: on a block of 256 output points, all input points, and the features with a
  column of ones beside them, the block's means.
-/
module

public import proofs.«01_k».proof.Proof.Meaning
public import proofs.«01_k».proof.Proof.Gen.KernelIdeal.Skeleton

@[expose] public section

noncomputable section

namespace Cert.KernelIdeal.Ball

open Cert.KernelIdeal Cert.KernelIdeal.Gen Idealize.ShloMosaic Cert.BallMean

/-- The value stored by one grid step, read at row `r` and feature `b`: the mean of feature `b` around the block's
    point `r`. The third operand holds the features transposed (`hx`) and ones in its last column (`h1`), so that its
    last column of products is the number of near points. -/
theorem step_apply (x : Mat 32 8192) (o : Mat 256 3) (p : Mat 8192 3) (xa : Mat 8192 33)
    (hx : ∀ (j : Fin 8192) (b : Fin 32) (h : b.val < 33), xa (ix2 j ⟨b.val, h⟩) = x (ix2 b j))
    (h1 : ∀ j : Fin 8192, xa (ix2 j 32) = (1 : EReal)) (r : Fin 256) (b : Fin 32) :
    k0_pay1 (F := Ideal) o p xa (ix2 r b) = mean x o p r b := by
  pointwise [k0_pay1]
  simp only [sitofp_bit, hx, h1, mul_one]
  rfl

end Cert.KernelIdeal.Ball

end
-- ==== Proof.Array.lean ====
/-
  The kernel's whole run: the sixteen grid steps fill the output array with the means, one block of 256 points each, and
  the transpose after them lays the result out as the reference does.
-/
module

public import proofs.«01_k».proof.Proof.Block
public import proofs.«01_k».proof.Proof.Gen.KernelIdeal.Frame
public import Idealize.ShloMosaic.Lib.Pipeline.Value
public import Idealize.ShloMosaic.Lib.StableHlo.Run

@[expose] public section

set_option maxRecDepth 16384

noncomputable section

namespace Cert.KernelIdeal.Ball

open Cert.KernelIdeal Cert.KernelIdeal.Gen Idealize.ShloMosaic Idealize.ShloMosaic.TcCoe Idealize.SL.Sem Cert.BallMean
open Idealize.ShloMosaic.Pipeline (Dat)

variable (m : (ℓ : Loc nD τ sig) → Buf (Elt Ideal) ℓ) (ρ : Dev nD → PrngReg)

/-- The features as launched. -/
abbrev feats (c : Dev nD) : Mat 32 8192 := m ((c.tc : Thread nD τ).loc main_arg0)
/-- The input points as launched. -/
abbrev ins (c : Dev nD) : Mat 8192 3 := m ((c.tc : Thread nD τ).loc main_arg1)
/-- The output points as launched. -/
abbrev outs (c : Dev nD) : Mat 4096 3 := m ((c.tc : Thread nD τ).loc main_arg2)

/-- The means with the output point first, as the grid's output array holds them. -/
def means (c : Dev nD) : Mat 4096 32 := fun i => mean (feats m c) (outs m c) (ins m c) (i 0) (i 1)

/-! ## What the region finds -/

/-- The third operand at entry: the features transposed, with a column of ones appended. -/
theorem entry_aug (c : Dev nD) : V m c main_call0_v2
    = concatenate S8192x33 1 [⟨S8192x32, transpose S8192x32 [1, 0] (feats m c) transposes_S32x8192_S8192x32_1_0⟩,
        ⟨S8192x1, broadcastInDim S8192x1 ![] bcast_S_S8192x1 (constant (F := Ideal) S_ .f32 0x3F800000#32)⟩]
        concatenates_S8192x32_S8192x1_S8192x33_d1 := by
  show StableHlo.after _ _ _ = _
  simp only [hostOps0, List.flatten_cons, List.flatten_nil, List.append_nil]
  after_results
  rfl

/-- Its first 32 columns are the features. -/
theorem aug_feat (c : Dev nD) (j : Fin 8192) (b : Fin 32) (h : b.val < 33) :
    (V m c main_call0_v2 : Mat 8192 33) (ix2 j ⟨b.val, h⟩) = feats m c (ix2 b j) := by
  rw [entry_aug]
  pointwise

/-- Its last column is ones. -/
theorem aug_one (c : Dev nD) (j : Fin 8192) : (V m c main_call0_v2 : Mat 8192 33) (ix2 j 32) = (1 : EReal) := by
  rw [entry_aug]
  pointwise

/-! ## The windows' blocks -/

/-- A store or load at the origin, as the library's lemmas spell the offsets. -/
theorem hz : (![0, 0] : Fin 2 → Nat) = fun _ => 0 := funext fun a => by fin_cases a <;> rfl

/-- Step `t`'s block starts at row `256 t` in the output points and in the output array, and at the origin in the two
    operands that are staged whole. -/
theorem starts : ∀ t : Fin cfg0.N,
    win0_0.index t 0 * win0_0.size 0 = 256 * t.val ∧ win0_0.index t 1 * win0_0.size 1 = 0
    ∧ win0_1.index t 0 * win0_1.size 0 = 0 ∧ win0_1.index t 1 * win0_1.size 1 = 0
    ∧ win0_2.index t 0 * win0_2.size 0 = 0 ∧ win0_2.index t 1 * win0_2.size 1 = 0
    ∧ win0_3.index t 0 * win0_3.size 0 = 256 * t.val ∧ win0_3.index t 1 * win0_3.size 1 = 0 :=
  (by decide +kernel : ∀ t : Fin grid0.N,
    win0_0.index t 0 * win0_0.size 0 = 256 * t.val ∧ win0_0.index t 1 * win0_0.size 1 = 0
    ∧ win0_1.index t 0 * win0_1.size 0 = 0 ∧ win0_1.index t 1 * win0_1.size 1 = 0
    ∧ win0_2.index t 0 * win0_2.size 0 = 0 ∧ win0_2.index t 1 * win0_2.size 1 = 0
    ∧ win0_3.index t 0 * win0_3.size 0 = 256 * t.val ∧ win0_3.index t 1 * win0_3.size 1 = 0)

/-- There are sixteen grid steps. -/
theorem steps : cfg0.N = 16 := by decide +kernel

/-- The row of the whole array that row `r` of step `t`'s block is. -/
def row (t : Fin cfg0.N) (r : Fin 256) : Fin 4096 :=
  ⟨256 * t.val + r.val, by have := t.isLt; have := r.isLt; have := steps; omega⟩

/-- Row `r` of step `t`'s block of output points is row `256 t + r` of the output points. -/
theorem blk0 (c : Dev nD) (t : Fin cfg0.N) (r : Fin 256) (k : Fin 3) :
    (iblk m c 0 t : Mat 256 3) (ix2 r k) = outs m c (ix2 (row t r) k) := by
  obtain ⟨h0, h1, -⟩ := starts t
  show V m c main_arg2 _ = _
  rw [V_main_arg2]
  show outs m c _ = outs m c _
  refine congrArg (outs m c) ?_
  funext a
  apply Fin.ext
  match a with
  | ⟨0, _⟩ =>
    show win0_0.index t 0 * win0_0.size 0 + 1 * r.val = 256 * t.val + r.val
    rw [h0]; omega
  | ⟨1, _⟩ =>
    show win0_0.index t 1 * win0_0.size 1 + 1 * k.val = k.val
    rw [h1]; omega

/-- The input points are staged whole. -/
theorem blk1 (c : Dev nD) (t : Fin cfg0.N) : (iblk m c 1 t : Mat 8192 3) = ins m c := by
  obtain ⟨-, -, h0, h1, -⟩ := starts t
  funext i
  show V m c main_arg1 _ = _
  rw [V_main_arg1]
  show ins m c _ = ins m c _
  refine congrArg (ins m c) ?_
  funext a
  apply Fin.ext
  match a with
  | ⟨0, _⟩ =>
    show win0_1.index t 0 * win0_1.size 0 + 1 * (i 0).val = (i 0).val
    rw [h0]; omega
  | ⟨1, _⟩ =>
    show win0_1.index t 1 * win0_1.size 1 + 1 * (i 1).val = (i 1).val
    rw [h1]; omega

/-- The features with the column of ones are staged whole. -/
theorem blk2 (c : Dev nD) (t : Fin cfg0.N) : (iblk m c 2 t : Mat 8192 33) = V m c main_call0_v2 := by
  obtain ⟨-, -, -, -, h0, h1, -⟩ := starts t
  funext i
  show V m c main_call0_v2 _ = V m c main_call0_v2 i
  refine congrArg (V m c main_call0_v2) ?_
  funext a
  apply Fin.ext
  match a with
  | ⟨0, _⟩ =>
    show win0_2.index t 0 * win0_2.size 0 + 1 * (i 0).val = (i 0).val
    rw [h0]; omega
  | ⟨1, _⟩ =>
    show win0_2.index t 1 * win0_2.size 1 + 1 * (i 1).val = (i 1).val
    rw [h1]; omega

/-- What step `t` writes back is block `t` of the means. -/
theorem flushed_eq (c : Dev nD) (t : Fin cfg0.N) :
    (dats m 0 c).flushed 3 t = ((cfg0.win 3).blk t).view.read (Elt Ideal) (means m c) := by
  obtain ⟨-, -, -, -, -, -, h0, h1⟩ := starts t
  show (cfg0.win 3).cut (grid0.coords t) ((dats m 0 c).after 3 t) = _
  rw [after0_3]
  unfold out0_3
  rw [View.canon_unit_zero hz, View.ld_unit_zero (S := S256x3) hz, View.ld_unit_zero (S := S8192x3) hz, View.ld_unit_zero (S := S8192x33) hz]
  rw [blk1, blk2]
  funext i
  obtain ⟨r, b, rfl⟩ : ∃ (r : Fin 256) (b : Fin 32), i = ix2 r b := ⟨i 0, i 1, eq_ix2 i⟩
  refine (step_apply (feats m c) _ _ _ (aug_feat m c) (aug_one m c) r b).trans ?_
  rw [mean_congr_row _ _ (outs m c) _ r (row t r) (fun k => blk0 m c t r k)]
  show means m c (ix2 (row t r) b) = means m c _
  refine congrArg (means m c) ?_
  funext a
  apply Fin.ext
  match a with
  | ⟨0, _⟩ =>
    show 256 * t.val + r.val = win0_3.index t 0 * win0_3.size 0 + 1 * r.val
    rw [h0]; omega
  | ⟨1, _⟩ =>
    show b.val = win0_3.index t 1 * win0_3.size 1 + 1 * b.val
    rw [h1]; omega

/-- The sixteen blocks cover the array, so after the grid it holds the means. -/
theorem final_means (c : Dev nD) : (dats m 0 c).arrAt 3 cfg0.N = means m c :=
  (dats m 0 c).arrAt_eq_of_cover 3 (means m c) (fun t _ => flushed_eq m c t) fun i => by
    have i0 : (i 0 : Nat) < 4096 := (i 0).isLt
    have i1 : (i 1 : Nat) < 32 := (i 1).isLt
    let t : Fin cfg0.N := ⟨(i 0 : Nat) / 256, by have := steps; omega⟩
    obtain ⟨-, -, -, -, -, -, h0, h1⟩ := starts t
    refine ⟨t, flush0_3 t, ?_⟩
    show i ∈ ((View.whole main_call0_v3).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + 256
      rw [h0]
      show 256 * ((i 0 : Nat) / 256) ≤ (i 0 : Nat) ∧ (i 0 : Nat) < 256 * ((i 0 : Nat) / 256) + 256
      omega
    | ⟨1, _⟩ =>
      show win0_3.index t 1 * win0_3.size 1 ≤ (i 1 : Nat) ∧ (i 1 : Nat) < win0_3.index t 1 * win0_3.size 1 + 32
      rw [h1]
      omega

/-- The program's result: the means transposed, feature first. -/
theorem result (c : Dev nD) : Pipeline.afterTail₀ cfgs (dats m) 0 (V0 m) [hostOps1] c main_v0
    = (fun i : S32x4096.Idx => mean (feats m c) (outs m c) (ins m c) (i 1) (i 0)) := by
  have h : Pipeline.afterTail₀ cfgs (dats m) 0 (V0 m) [hostOps1] c main_v0
      = transpose S32x4096 [1, 0] (means m c) transposes_S4096x32_S32x4096_1_0 := by
    unfold Pipeline.afterTail₀
    simp only [hostOps1, List.flatten_cons, List.flatten_nil, List.append_nil]
    after_results
    rw [← final_means m c]
    exact congrArg (transpose S32x4096 [1, 0] · transposes_S4096x32_S32x4096_1_0)
      (Pipeline.withArrays_arr spec0 launch0.win.arr_inj c (V0 m c) (fun w => (dats m 0 c).arrAt w cfg0.N) 3)
  rw [h]
  funext i
  obtain ⟨b, n, rfl⟩ : ∃ (b : Fin 32) (n : Fin 4096), i = ix2 b n := ⟨i 0, i 1, eq_ix2 i⟩
  pointwise
  rfl

/-- The kernel's run: its result holds the means, and its arguments end as they began. -/
theorem run : θ_run defs (onTc (τ := τ) (main (F := Ideal))) ⟨m, fun _ => 0, ρ⟩ fun r => ∀ c : Dev nD,
      r.2.mem ((c.tc : Thread nD τ).loc main_v0)
          = (fun i : S32x4096.Idx => mean (feats m c) (outs m c) (ins m c) (i 1) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c)))⟩)
    (run_main m ρ)

end Cert.KernelIdeal.Ball

end
-- ==== Proof.Ref.lean ====
/-
  What the reference computes: the plain array program, read at feature `b` and output point `n`, is the mean there.
-/
module

public import proofs.«01_k».proof.Proof.Meaning
public import proofs.«01_k».proof.Proof.Gen.ReferenceIdeal.Run

@[expose] public section

noncomputable section

namespace Cert.ReferenceIdeal.Ball

open Cert.ReferenceIdeal Cert.ReferenceIdeal.Gen Idealize.ShloMosaic Idealize.ShloMosaic.TcCoe Idealize.SL.Sem Cert.BallMean

/-- The reference's run: its result holds the means, and its arguments end as they began. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = (fun i : S32x4096.Idx =>
          mean (m ((c.tc : Thread nD τ).loc main_arg0) : Mat 32 8192) (m ((c.tc : Thread nD τ).loc main_arg2) : Mat 4096 3)
            (m ((c.tc : Thread nD τ).loc main_arg1) : Mat 8192 3) (i 1) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  have one : id (constant (F := Ideal) S_ .f32 0x3F800000#32) ix0 = (1 : EReal) := by
    simp only [id]
    pointwise
  funext i
  obtain ⟨b, n, rfl⟩ : ∃ (b : Fin 32) (n : Fin 4096), i = ix2 b n := ⟨i 0, i 1, eq_ix2 i⟩
  pointwise
  simp only [uitofp_bit, one]
  exact (mean_comm _ _ _ n b).symm

end Cert.ReferenceIdeal.Ball

end
-- ==== Proof.lean ====
/-
  The certificate, assembled: each claim has a theorem of its own, and `Cert.Proof.claim` pairs them with the witnesses
  of the programs' stated side conditions.
-/
module

public import proofs.«01_k».proof.Defs
public import proofs.«01_k».proof.Proof.Gen.Kernel.Frame
public import proofs.«01_k».proof.Proof.Array
public import proofs.«01_k».proof.Proof.Ref
public import Idealize.ShloMosaic.Lib.Quiescent

@[expose] public section

noncomputable section

namespace Cert.Proof

open Idealize.ShloMosaic Idealize.SL.Sem

/-- The kernel, on machine floats, runs without fault to the end, keeps its arguments and returns every semaphore. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference over the extended reals; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Ball.run m ρ)

/-- The kernel over the extended reals is the kernel's own text: no operation was rewritten. -/
theorem preserves : Cert.preserves_Kernel_KernelIdeal := trivial

/-- Over the extended reals the kernel and the reference, started on equal arguments, end with equal results: both
    arrays hold, at feature `b` and output point `n`, the mean of feature `b` over the input points near point `n`. -/
theorem algebraic : Cert.algebraic_KernelIdeal_ReferenceIdeal := by
  intro m ρ m' ρ' _ agree
  refine ⟨_, Cert.KernelIdeal.Ball.run m ρ, ?_⟩
  refine (θ_run Cert.ReferenceIdeal.defs _ _).mono (fun r h c => ⟨(h c).1.trans ?_, (h c).2⟩)
    (Cert.ReferenceIdeal.Ball.run m' ρ')
  obtain ⟨hx, hp, ho⟩ := agree c
  rw [hx, hp, ho]

/-- Everything the certificate claims. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
